-- ==== Defs.lean ====
def Pre_Kernel [hPre_in_range : Cert.Pre_in_range.Facts] (m : (ℓ : Loc Cert.Kernel.nD Cert.Kernel.τ Cert.Kernel.sig) → Buf (Elt Bits) ℓ) : Prop :=
  ∀ c : Dev Cert.Kernel.nD,
    (Cert.Pre_in_range.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_in_range : Cert.Pre_in_range.Facts] (m : (ℓ : Loc Cert.KernelIdeal.nD Cert.KernelIdeal.τ Cert.KernelIdeal.sig) → Buf (Elt Ideal) ℓ) : Prop :=
  ∀ c : Dev Cert.KernelIdeal.nD,
    (Cert.Pre_in_range.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_in_range [hPre_in_range : Cert.Pre_in_range.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_in_range.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def quiescent_Kernel [hKernel : Cert.Kernel.Facts] [hPre_in_range : Cert.Pre_in_range.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] [hPre_in_range : Cert.Pre_in_range.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_ReferenceIdeal_pre_in_range [hReferenceIdeal : Cert.ReferenceIdeal.Facts] [hPre_in_range : Cert.Pre_in_range.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_in_range m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] [hPre_in_range : Cert.Pre_in_range.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v0) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_in_range : Cert.Pre_in_range.Facts),
    quiescent_Kernel (hKernel := hKernel) (hPre_in_range := hPre_in_range)
    ∧ quiescent_KernelIdeal (hKernelIdeal := hKernelIdeal) (hPre_in_range := hPre_in_range)
    ∧ quiescent_ReferenceIdeal (hReferenceIdeal := hReferenceIdeal)
    ∧ quiescent_ReferenceIdeal_pre_in_range (hReferenceIdeal := hReferenceIdeal) (hPre_in_range := hPre_in_range)
    ∧ preserves_Kernel_KernelIdeal
    ∧ algebraic_KernelIdeal_ReferenceIdeal (hKernelIdeal := hKernelIdeal) (hReferenceIdeal := hReferenceIdeal) (hPre_in_range := hPre_in_range)
-- ==== Pre_in_range.lean ====
abbrev S8x96x224x224 : Shape := ⟨4, ![8, 96, 224, 224]⟩
abbrev S96 : Shape := ⟨1, ![96]⟩
abbrev S_ : Shape := ⟨0, ![]⟩

class Facts : Prop where
  bcast_S_S96 : S_.BroadcastsInDim S96 (![] : Fin 0 → Fin S96.rank)
  reducesTo_S96_S_d0 : S96.ReducesTo [0] S_
  h_S_ : 0 < S_.numel

variable [Facts]

def fn {F : FTy → Type} [FloatOps F] (main_arg0 : FVec F S8x96x224x224 .f32) (main_arg1 : IVec S96 32) : IVec S_ 1 :=
  let main_c : IVec S_ 32 := constantI S_ 32 0#32
  let main_v0 : IVec S96 32 := broadcastInDim S96 ![] bcast_S_S96 main_c
  let main_v1 : IVec S96 1 := cmpi .sge main_arg1 main_v0
  let main_c_0 : IVec S_ 32 := constantI S_ 32 96#32
  let main_v2 : IVec S96 32 := broadcastInDim S96 ![] bcast_S_S96 main_c_0
  let main_v3 : IVec S96 1 := cmpi .slt main_arg1 main_v2
  let main_v4 : IVec S96 1 := andi main_v1 main_v3
  let main_c_1 : IVec S_ 1 := constantI S_ 1 1#1
  let main_v5 : IVec S_ 1 := (fun x v => Host.reduce IntOp.andi x v reducesTo_S96_S_d0 h_S_) main_v4 main_c_1
  main_v5
-- ==== Kernel.lean ====
abbrev S8x96x224x224 : Shape := ⟨4, ![8, 96, 224, 224]⟩
abbrev S96 : Shape := ⟨1, ![96]⟩
abbrev S8x1x224x224 : Shape := ⟨4, ![8, 1, 224, 224]⟩
abbrev S1 : Shape := ⟨1, ![1]⟩
abbrev S8x6x224x224 : Shape := ⟨4, ![8, 6, 224, 224]⟩
abbrev S8x224x224 : Shape := ⟨3, ![8, 224, 224]⟩

abbrev nBuf : Space → Nat
  | .hbm => 2
  | .vmem => 14
  | .smem => 1
  | _ => 0

abbrev bufTy : (tb : Table) → Fin (tcTables nBuf tb) → BufTy
  | .hbm, ⟨0, _⟩ => ⟨S8x96x224x224, .f32⟩
  | .hbm, ⟨1, _⟩ => ⟨S8x96x224x224, .f32⟩
  | .local _ .vmem, ⟨0, _⟩ => ⟨S8x1x224x224, .f32⟩
  | .local _ .vmem, ⟨1, _⟩ => ⟨S8x1x224x224, .f32⟩
  | .local _ .vmem, ⟨2, _⟩ => ⟨S8x1x224x224, .f32⟩
  | .local _ .vmem, ⟨3, _⟩ => ⟨S8x1x224x224, .f32⟩
  | .local _ .vmem, ⟨4, _⟩ => ⟨S8x1x224x224, .f32⟩
  | .local _ .vmem, ⟨5, _⟩ => ⟨S8x1x224x224, .f32⟩
  | .local _ .vmem, ⟨6, _⟩ => ⟨S8x1x224x224, .f32⟩
  | .local _ .vmem, ⟨7, _⟩ => ⟨S8x1x224x224, .f32⟩
  | .local _ .vmem, ⟨8, _⟩ => ⟨S8x1x224x224, .f32⟩
  | .local _ .vmem, ⟨9, _⟩ => ⟨S8x1x224x224, .f32⟩
  | .local _ .vmem, ⟨10, _⟩ => ⟨S8x1x224x224, .f32⟩
  | .local _ .vmem, ⟨11, _⟩ => ⟨S8x1x224x224, .f32⟩
  | .local _ .vmem, ⟨12, _⟩ => ⟨S8x6x224x224, .f32⟩
  | .local _ .vmem, ⟨13, _⟩ => ⟨S8x6x224x224, .f32⟩
  | .local _ .smem, ⟨0, _⟩ => ⟨S96, .i32⟩
  | _, _ => ⟨S8x96x224x224, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_arg1 : Ref sig .tc := ⟨.smem, 0, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨1, ![16], ![false]⟩

abbrev pre0 : Pipeline.Prefetch sig := ⟨1, ![main_arg1.idx], fun | 0 => main_arg1.names | ⟨_ + 1, h⟩ => absurd h (Nat.not_lt.2 (Nat.le_add_left _ _)), fun | 0 => rfl | ⟨_ + 1, h⟩ => absurd h (Nat.not_lt.2 (Nat.le_add_left _ _))⟩

def k0_off1 (i : grid0.Coords) (c0_i32 : BitVec 32) : Fin 1 → Nat :=
  let c6_i32 : BitVec 32 := 6#32
  let arg0 : BitVec 32 := BitVec.ofNat 32 (i 0).val
  let v0 : BitVec 32 := Scalar.muli c6_i32 arg0
  let v1 : BitVec 32 := Scalar.addi v0 c0_i32
  let v2 : Index := Scalar.indexCast v1
  ![v2.toNat]
def cc0_transform_0 (k0_off1_inb : ∀ i : grid0.Coords, ∀ (r : Fin 6), ∀ a, (k0_off1 i (BitVec.ofNat 32 r.val)) a + S1.size a ≤ S96.size a) (numel1_S1 : S1.numel = 1) (pf : pre0.Contents (Elt F)) (i : grid0.Coords) : Fin 4 → Nat :=
  let arg0 : BitVec 32 := BitVec.ofNat 32 (i 0).val
  let c6_i32 : BitVec 32 := 6#32
  let v0 : BitVec 32 := Scalar.muli c6_i32 arg0
  let c0_i32 : BitVec 32 := 0#32
  let v1 : BitVec 32 := Scalar.addi v0 c0_i32
  let v2 : Index := Scalar.indexCast v1
  let v3 : BitVec 32 := pf.at 0 (Rect.unit (s := S96) ![v2.toNat] S1.size (k0_off1_inb i 0)) numel1_S1
  let c0_i32_0 : BitVec 32 := 0#32
  let c0_i32_1 : BitVec 32 := 0#32
  let c0_i32_2 : BitVec 32 := 0#32
  let c0_i32_3 : BitVec 32 := 0#32
  ![c0_i32_0.toNat, v3.toNat, c0_i32_1.toNat, c0_i32_2.toNat]

def cc0_transform_1 (k0_off1_inb : ∀ i : grid0.Coords, ∀ (r : Fin 6), ∀ a, (k0_off1 i (BitVec.ofNat 32 r.val)) a + S1.size a ≤ S96.size a) (numel1_S1 : S1.numel = 1) (pf : pre0.Contents (Elt F)) (i : grid0.Coords) : Fin 4 → Nat :=
  let arg0 : BitVec 32 := BitVec.ofNat 32 (i 0).val
  let c6_i32 : BitVec 32 := 6#32
  let v0 : BitVec 32 := Scalar.muli c6_i32 arg0
  let c1_i32 : BitVec 32 := 1#32
  let v1 : BitVec 32 := Scalar.addi v0 c1_i32
  let v2 : Index := Scalar.indexCast v1
  let v3 : BitVec 32 := pf.at 0 (Rect.unit (s := S96) ![v2.toNat] S1.size (k0_off1_inb i 1)) numel1_S1
  let c0_i32 : BitVec 32 := 0#32
  let c0_i32_0 : BitVec 32 := 0#32
  let c0_i32_1 : BitVec 32 := 0#32
  let c0_i32_2 : BitVec 32 := 0#32
  ![c0_i32.toNat, v3.toNat, c0_i32_0.toNat, c0_i32_1.toNat]

def cc0_transform_2 (k0_off1_inb : ∀ i : grid0.Coords, ∀ (r : Fin 6), ∀ a, (k0_off1 i (BitVec.ofNat 32 r.val)) a + S1.size a ≤ S96.size a) (numel1_S1 : S1.numel = 1) (pf : pre0.Contents (Elt F)) (i : grid0.Coords) : Fin 4 → Nat :=
  let arg0 : BitVec 32 := BitVec.ofNat 32 (i 0).val
  let c6_i32 : BitVec 32 := 6#32
  let v0 : BitVec 32 := Scalar.muli c6_i32 arg0
  let c2_i32 : BitVec 32 := 2#32
  let v1 : BitVec 32 := Scalar.addi v0 c2_i32
  let v2 : Index := Scalar.indexCast v1
  let v3 : BitVec 32 := pf.at 0 (Rect.unit (s := S96) ![v2.toNat] S1.size (k0_off1_inb i 2)) numel1_S1
  let c0_i32 : BitVec 32 := 0#32
  let c0_i32_0 : BitVec 32 := 0#32
  let c0_i32_1 : BitVec 32 := 0#32
  let c0_i32_2 : BitVec 32 := 0#32
  ![c0_i32.toNat, v3.toNat, c0_i32_0.toNat, c0_i32_1.toNat]

def cc0_transform_3 (k0_off1_inb : ∀ i : grid0.Coords, ∀ (r : Fin 6), ∀ a, (k0_off1 i (BitVec.ofNat 32 r.val)) a + S1.size a ≤ S96.size a) (numel1_S1 : S1.numel = 1) (pf : pre0.Contents (Elt F)) (i : grid0.Coords) : Fin 4 → Nat :=
  let arg0 : BitVec 32 := BitVec.ofNat 32 (i 0).val
  let c6_i32 : BitVec 32 := 6#32
  let v0 : BitVec 32 := Scalar.muli c6_i32 arg0
  let c3_i32 : BitVec 32 := 3#32
  let v1 : BitVec 32 := Scalar.addi v0 c3_i32
  let v2 : Index := Scalar.indexCast v1
  let v3 : BitVec 32 := pf.at 0 (Rect.unit (s := S96) ![v2.toNat] S1.size (k0_off1_inb i 3)) numel1_S1
  let c0_i32 : BitVec 32 := 0#32
  let c0_i32_0 : BitVec 32 := 0#32
  let c0_i32_1 : BitVec 32 := 0#32
  let c0_i32_2 : BitVec 32 := 0#32
  ![c0_i32.toNat, v3.toNat, c0_i32_0.toNat, c0_i32_1.toNat]

def cc0_transform_4 (k0_off1_inb : ∀ i : grid0.Coords, ∀ (r : Fin 6), ∀ a, (k0_off1 i (BitVec.ofNat 32 r.val)) a + S1.size a ≤ S96.size a) (numel1_S1 : S1.numel = 1) (pf : pre0.Contents (Elt F)) (i : grid0.Coords) : Fin 4 → Nat :=
  let arg0 : BitVec 32 := BitVec.ofNat 32 (i 0).val
  let c6_i32 : BitVec 32 := 6#32
  let v0 : BitVec 32 := Scalar.muli c6_i32 arg0
  let c4_i32 : BitVec 32 := 4#32
  let v1 : BitVec 32 := Scalar.addi v0 c4_i32
  let v2 : Index := Scalar.indexCast v1
  let v3 : BitVec 32 := pf.at 0 (Rect.unit (s := S96) ![v2.toNat] S1.size (k0_off1_inb i 4)) numel1_S1
  let c0_i32 : BitVec 32 := 0#32
  let c0_i32_0 : BitVec 32 := 0#32
  let c0_i32_1 : BitVec 32 := 0#32
  let c0_i32_2 : BitVec 32 := 0#32
  ![c0_i32.toNat, v3.toNat, c0_i32_0.toNat, c0_i32_1.toNat]

def cc0_transform_5 (k0_off1_inb : ∀ i : grid0.Coords, ∀ (r : Fin 6), ∀ a, (k0_off1 i (BitVec.ofNat 32 r.val)) a + S1.size a ≤ S96.size a) (numel1_S1 : S1.numel = 1) (pf : pre0.Contents (Elt F)) (i : grid0.Coords) : Fin 4 → Nat :=
  let arg0 : BitVec 32 := BitVec.ofNat 32 (i 0).val
  let c6_i32 : BitVec 32 := 6#32
  let v0 : BitVec 32 := Scalar.muli c6_i32 arg0
  let c5_i32 : BitVec 32 := 5#32
  let v1 : BitVec 32 := Scalar.addi v0 c5_i32
  let v2 : Index := Scalar.indexCast v1
  let v3 : BitVec 32 := pf.at 0 (Rect.unit (s := S96) ![v2.toNat] S1.size (k0_off1_inb i 5)) numel1_S1
  let c0_i32 : BitVec 32 := 0#32
  let c0_i32_0 : BitVec 32 := 0#32
  let c0_i32_1 : BitVec 32 := 0#32
  let c0_i32_2 : BitVec 32 := 0#32
  ![c0_i32.toNat, v3.toNat, c0_i32_0.toNat, c0_i32_1.toNat]

def cc0_transform_6 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, arg0.toNat, c0_i32_0.toNat, c0_i32_1.toNat]

abbrev stage0_0 : Fin 2 → Memref sig .tc .vmem S8x1x224x224 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S8x1x224x224 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S8x1x224x224 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S8x1x224x224 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S8x1x224x224 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S8x1x224x224 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S8x6x224x224 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== ReferenceIdeal.lean ====
abbrev S8x96x224x224 : Shape := ⟨4, ![8, 96, 224, 224]⟩
abbrev S96 : Shape := ⟨1, ![96]⟩
abbrev S_ : Shape := ⟨0, ![]⟩
abbrev S96x1 : Shape := ⟨2, ![96, 1]⟩
abbrev S1 : Shape := ⟨1, ![1]⟩
abbrev S1x1 : Shape := ⟨2, ![1, 1]⟩

abbrev nBuf : Space → Nat
  | .hbm => 25
  | .vmem => 0
  | .smem => 0
  | _ => 0

abbrev bufTy : (tb : Table) → Fin (tcTables nBuf tb) → BufTy
  | .hbm, ⟨0, _⟩ => ⟨S8x96x224x224, .f32⟩
  | .hbm, ⟨1, _⟩ => ⟨S96, .i32⟩
  | .hbm, ⟨2, _⟩ => ⟨S_, .i32⟩
  | .hbm, ⟨3, _⟩ => ⟨S96, .i32⟩
  | .hbm, ⟨4, _⟩ => ⟨S96, .i1⟩
  | .hbm, ⟨5, _⟩ => ⟨S_, .i32⟩
  | .hbm, ⟨6, _⟩ => ⟨S96, .i32⟩
  | .hbm, ⟨7, _⟩ => ⟨S96, .i32⟩
  | .hbm, ⟨8, _⟩ => ⟨S96, .i32⟩
  | .hbm, ⟨9, _⟩ => ⟨S96x1, .i32⟩
  | .hbm, ⟨10, _⟩ => ⟨S1, .i32⟩
  | .hbm, ⟨11, _⟩ => ⟨S_, .i32⟩
  | .hbm, ⟨12, _⟩ => ⟨S96x1, .i32⟩
  | .hbm, ⟨13, _⟩ => ⟨S96x1, .i1⟩
  | .hbm, ⟨14, _⟩ => ⟨S1x1, .i32⟩
  | .hbm, ⟨15, _⟩ => ⟨S96x1, .i32⟩
  | .hbm, ⟨16, _⟩ => ⟨S96x1, .i1⟩
  | .hbm, ⟨17, _⟩ => ⟨S96x1, .i1⟩
  | .hbm, ⟨18, _⟩ => ⟨S_, .i1⟩
  | .hbm, ⟨19, _⟩ => ⟨S96, .i1⟩
  | .hbm, ⟨20, _⟩ => ⟨S8x96x224x224, .f32⟩
  | .hbm, ⟨21, _⟩ => ⟨S8x96x224x224, .i1⟩
  | .hbm, ⟨22, _⟩ => ⟨S_, .f32⟩
  | .hbm, ⟨23, _⟩ => ⟨S8x96x224x224, .f32⟩
  | .hbm, ⟨24, _⟩ => ⟨S8x96x224x224, .f32⟩
  | _, _ => ⟨S8x96x224x224, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_call0_c : Ref sig .tc := ⟨.hbm, 2, rfl⟩
abbrev main_call0_v0 : Ref sig .tc := ⟨.hbm, 3, rfl⟩
abbrev main_call0_v1 : Ref sig .tc := ⟨.hbm, 4, rfl⟩
abbrev main_call0_c_0 : Ref sig .tc := ⟨.hbm, 5, rfl⟩
abbrev main_call0_v2 : Ref sig .tc := ⟨.hbm, 6, rfl⟩
abbrev main_call0_v3 : Ref sig .tc := ⟨.hbm, 7, rfl⟩
abbrev main_call0_v4 : Ref sig .tc := ⟨.hbm, 8, rfl⟩
abbrev main_call0_v5 : Ref sig .tc := ⟨.hbm, 9, rfl⟩
abbrev main_call0_c_1 : Ref sig .tc := ⟨.hbm, 10, rfl⟩
abbrev main_call0_c_2 : Ref sig .tc := ⟨.hbm, 11, rfl⟩
abbrev main_call0_v6 : Ref sig .tc := ⟨.hbm, 12, rfl⟩
abbrev main_call0_v7 : Ref sig .tc := ⟨.hbm, 13, rfl⟩
abbrev main_call0_v8 : Ref sig .tc := ⟨.hbm, 14, rfl⟩
abbrev main_call0_v9 : Ref sig .tc := ⟨.hbm, 15, rfl⟩
abbrev main_call0_v10 : Ref sig .tc := ⟨.hbm, 16, rfl⟩
abbrev main_call0_v11 : Ref sig .tc := ⟨.hbm, 17, rfl⟩
abbrev main_call0_c_3 : Ref sig .tc := ⟨.hbm, 18, rfl⟩
abbrev main_call0_v12 : Ref sig .tc := ⟨.hbm, 19, rfl⟩
abbrev main_call0_v13 : Ref sig .tc := ⟨.hbm, 20, rfl⟩
abbrev main_call0_v14 : Ref sig .tc := ⟨.hbm, 21, rfl⟩
abbrev main_call0_cst : Ref sig .tc := ⟨.hbm, 22, rfl⟩
abbrev main_call0_v15 : Ref sig .tc := ⟨.hbm, 23, rfl⟩
abbrev main_v0 : Ref sig .tc := ⟨.hbm, 24, rfl⟩

abbrev nD : Nat := 1
abbrev τ : Topo := Topo.v7x

variable {F : FTy → Type} [FloatOps F]
-- ==== Proof.Channels.lean ====
/- The mathematics of the problem: an array whose channels (axis 1) are the channels of another, in the order a table of 96
   words names them; and what the precondition says of that table. -/
module

public import proofs.«01_k».proof.Defs
public import Idealize.ShloMosaic.Lib.ReduceAll
public import Idealize.ShloMosaic.Lib.ValueIdxCore

@[expose] public section

namespace Cert.Proof

open Idealize.ShloMosaic Idealize.ShloMosaic.ValueIdx

/-- The arrays of the problem: 8 images of 96 channels of 224 × 224. -/
abbrev SImg : Shape := ⟨4, ![8, 96, 224, 224]⟩
/-- The table: one word per channel of the result. -/
abbrev STab : Shape := ⟨1, ![96]⟩

/-- The channel a word names: its value, the last channel if it is larger (no word of an allowed table is). -/
def chan (b : BitVec 32) : Fin 96 := ⟨min b.toNat 95, by omega⟩

/-- Channel `k` of the result is channel `chan (idx k)` of `x`. -/
def permuted {α : Type} (x : SImg.Idx → α) (idx : IVec STab 32) : SImg.Idx → α :=
  fun j => x (ix4 (j 0) (chan (idx (ix1 (j 1)))) (j 2) (j 3))

/-- A word below 96 names the channel of its own value. -/
theorem chan_val {b : BitVec 32} (h : b.toNat < 96) : (chan b : ℕ) = b.toNat := by simp only [chan]; omega

/-- A word that is signed at least 0 and signed below 96 is unsigned below 96. -/
theorem toNat_lt_of_cmp {b : BitVec 32} (h0 : IntOp.cmpi .sge b 0#32 = 1#1) (h1 : IntOp.cmpi .slt b 96#32 = 1#1) : b.toNat < 96 := by
  rw [IntOp.cmpi_sge] at h0
  rw [IntOp.cmpi_slt] at h1
  have e0 : (0#32 : BitVec 32).toInt = 0 := rfl
  have e1 : (96#32 : BitVec 32).toInt = 96 := rfl
  rw [e0] at h0
  rw [e1] at h1
  rw [BitVec.toInt_eq_toNat_cond] at h0 h1
  split at h0 <;> omega

instance : Subsingleton (⟨0, ![]⟩ : Shape).Idx := ⟨fun _ _ => funext fun a => a.elim0⟩

/-- THE PRECONDITION READ BACK: when `in_range` is all ones, every word of the table is below 96. -/
theorem toNat_lt {F : FTy → Type} [FloatOps F] [Cert.Pre_in_range.Facts] (x : FVec F SImg .f32) (idx : IVec STab 32)
    (h : Cert.Pre_in_range.fn x idx = fun _ => 1#1) (k : STab.Idx) : (idx k).toNat < 96 := by
  have e := Host.reduce_andi_all _ _ _ _ _ (congrFun h (fun a => a.elim0)) k
  obtain ⟨h0, h1⟩ := IntOp.andi_eq_one.1 e
  exact toNat_lt_of_cmp h0 h1

end Cert.Proof
-- ==== Proof.TableKernelIdeal.lean ====
/- The index maps of the kernel's input windows: at grid point `i` window `k` stages the channel that word `6 i + k` of the
   table names. So when every word is below 96 each staged block lies inside the array, which is the side condition of the
   pipeline. -/
module

public import proofs.«01_k».proof.Proof.Channels
public import proofs.«01_k».proof.Proof.Gen.KernelIdeal.Frame

@[expose] public section

namespace Cert.KernelIdeal.Hand

open Cert.KernelIdeal Cert.KernelIdeal.Gen Cert.Proof Idealize.ShloMosaic Idealize.ShloMosaic.TcCoe Idealize.ShloMosaic.ValueIdx

variable {F : FTy → Type} [FloatOps F]

/-- The result channel that slot `k` of grid point `i` writes, as an index of the table: `6 i + k`. -/
def row (i : grid0.Coords) (k : Fin 6) : STab.Idx :=
  ix1 ⟨6 * (i 0).val + k.val, by have h : (i 0).val < 16 := (i 0).isLt; omega⟩

/-- The word an index map reads is word `6 i + k` of the table. -/
theorem word_eq (pf : pre0.Contents (Elt F)) (i : grid0.Coords) (k : Fin 6) :
    pf.at 0 (Rect.unit (s := S96) (k0_off1 i (BitVec.ofNat 32 k.val)) S1.size (k0_off1_inb i k)) numel1_S1
      = (pf 0 : IVec STab 32) (row i k) := by
  refine congrArg (pf 0 : IVec STab 32) (funext fun a => Fin.ext ?_)
  match a with
  | ⟨0, _⟩ => exact (congrFun (k0_off1_eq i k) 0 : k0_off1 i (BitVec.ofNat 32 k.val) 0 + 1 * 0 = 6 * (i 0).val + k.val)

/-- The block index of an input window whose table word is `b`. -/
abbrev blockAt (b : BitVec 32) : Fin 4 → Nat := ![0, b.toNat, 0, 0]

section Maps
variable (pf : pre0.Contents (Elt F)) (i : grid0.Coords)

/-- Window 0 stages the channel of word `6 i`. -/
theorem map_0 : cc0_transform_0 k0_off1_inb numel1_S1 pf i = blockAt ((pf 0 : IVec STab 32) (row i 0)) :=
  congrArg blockAt (word_eq pf i 0)
/-- Window 1 stages the channel of word `6 i + 1`. -/
theorem map_1 : cc0_transform_1 k0_off1_inb numel1_S1 pf i = blockAt ((pf 0 : IVec STab 32) (row i 1)) :=
  congrArg blockAt (word_eq pf i 1)
/-- Window 2 stages the channel of word `6 i + 2`. -/
theorem map_2 : cc0_transform_2 k0_off1_inb numel1_S1 pf i = blockAt ((pf 0 : IVec STab 32) (row i 2)) :=
  congrArg blockAt (word_eq pf i 2)
/-- Window 3 stages the channel of word `6 i + 3`. -/
theorem map_3 : cc0_transform_3 k0_off1_inb numel1_S1 pf i = blockAt ((pf 0 : IVec STab 32) (row i 3)) :=
  congrArg blockAt (word_eq pf i 3)
/-- Window 4 stages the channel of word `6 i + 4`. -/
theorem map_4 : cc0_transform_4 k0_off1_inb numel1_S1 pf i = blockAt ((pf 0 : IVec STab 32) (row i 4)) :=
  congrArg blockAt (word_eq pf i 4)
/-- Window 5 stages the channel of word `6 i + 5`. -/
theorem map_5 : cc0_transform_5 k0_off1_inb numel1_S1 pf i = blockAt ((pf 0 : IVec STab 32) (row i 5)) :=
  congrArg blockAt (word_eq pf i 5)

end Maps

/-- The block of one channel lies inside the array when its word is below 96. -/
theorem block_inside {b : BitVec 32} (h : b.toNat < 96) (a : Fin 4) :
    (blockAt b a + 1) * S8x1x224x224.size a ≤ S8x96x224x224.size a := by
  match a with
  | ⟨0, _⟩ => exact (by decide : (0 + 1) * 8 ≤ 8)
  | ⟨1, _⟩ => exact (by omega : (b.toNat + 1) * 1 ≤ 96)
  | ⟨2, _⟩ => exact (by decide : (0 + 1) * 224 ≤ 224)
  | ⟨3, _⟩ => exact (by decide : (0 + 1) * 224 ≤ 224)

/-- One window's conjunct of the side condition: at every point its block lies inside the array, and is of whole words. -/
theorem window_ok (f : grid0.Coords → Fin 4 → Nat) (b : grid0.Coords → BitVec 32) (e : ∀ i, f i = blockAt (b i))
    (hb : ∀ i, (b i).toNat < 96) (i : grid0.Coords) :
    ∃ h : (∀ a, (f i a + 1) * S8x1x224x224.size a ≤ S8x96x224x224.size a),
      EltTy.bits .f32 = 32 ∨ (Rect.block (s := S8x96x224x224) S8x1x224x224.size (f i) h).WholeWords (EltTy.packing .f32) :=
  ⟨fun a => by rw [e]; exact block_inside (hb i) a, .inl rfl⟩

/-- THE SIDE CONDITION: a table of words below 96 is admissible. -/
theorem ok_of_lt (m : (ℓ : Loc nD τ sig) → Buf (Elt F) ℓ)
    (h : ∀ k : STab.Idx, ((m (((0 : Dev nD) : Thread nD τ).loc main_arg1) : IVec STab 32) k).toNat < 96) : Ok m :=
  ⟨window_ok _ _ (map_0 (tbl m)) fun i => h _, window_ok _ _ (map_1 (tbl m)) fun i => h _, window_ok _ _ (map_2 (tbl m)) fun i => h _,
    window_ok _ _ (map_3 (tbl m)) fun i => h _, window_ok _ _ (map_4 (tbl m)) fun i => h _, window_ok _ _ (map_5 (tbl m)) fun i => h _⟩

end Cert.KernelIdeal.Hand
-- ==== Proof.BlockKernelIdeal.lean ====
/- What one grid point computes: the kernel's body copies its six staged channels into the six channels of its output block. -/
module

public import proofs.«01_k».proof.Proof.TableKernelIdeal
public import Idealize.ShloMosaic.Lib.Pipeline.Value
public import Idealize.ShloMosaic.Lib.WholeRead

@[expose] public section

noncomputable section

namespace Cert.KernelIdeal.Hand

open Cert.KernelIdeal Cert.KernelIdeal.Gen Cert.Proof Idealize.ShloMosaic Idealize.ShloMosaic.TcCoe Idealize.ShloMosaic.ValueIdx

variable {F : FTy → Type} [FloatOps F]

/-- Six channels side by side: channel `y 1` of the block is the one channel of `x (y 1)`. -/
def stack {α : Type} (x : Fin 6 → S8x1x224x224.Idx → α) : S8x6x224x224.Idx → α :=
  fun y => x (y 1) (ix4 (y 0) 0 (y 2) (y 3))

/-- Every index of a single channel has channel coordinate 0. -/
theorem eq_one_channel (x y : S8x1x224x224.Idx) (h0 : (x 0 : ℕ) = y 0) (h2 : (x 2 : ℕ) = y 2) (h3 : (x 3 : ℕ) = y 3) : x = y := by
  funext a
  refine Fin.ext ?_
  match a with
  | ⟨0, _⟩ => exact h0
  | ⟨1, _⟩ =>
    have hx : (x 1 : ℕ) < 1 := (x 1).isLt
    have hy : (y 1 : ℕ) < 1 := (y 1).isLt
    exact (by omega : (x 1 : ℕ) = y 1)
  | ⟨2, _⟩ => exact h2
  | ⟨3, _⟩ => exact h3

/-- A load of a whole staged channel reads the channel. -/
theorem load_channel (M : Memref sig .tc .vmem S8x1x224x224 .f32) (hM : M.IsWhole) (X : Vec F S8x1x224x224 .f32)
    (inb : ∀ a, (![0, 0, 0, 0] : Fin 4 → Nat) a + S8x1x224x224.size a ≤ S8x1x224x224.size a) :
    View.readAt (Elt F) M.view (Rect.unit (s := S8x1x224x224) ![0, 0, 0, 0] S8x1x224x224.size inb).toLoadRect (hM.unread X) = X := by
  funext x
  refine (hM.readAt_unread X _ x).trans (congrArg X (eq_one_channel _ _ ?_ ?_ ?_))
  · exact (by omega : 0 + 1 * (x 0 : ℕ) = x 0)
  · exact (by omega : 0 + 1 * (x 2 : ℕ) = x 2)
  · exact (by omega : 0 + 1 * (x 3 : ℕ) = x 3)

/-- ONE STORE: a staged channel, its unit axis dropped and put back, stored as channel `k` of the block, is `stack` there. -/
theorem piece_value (xs : Fin 6 → Vec F S8x1x224x224 .f32) (k : Fin 6) (M : Memref sig .tc .vmem S8x1x224x224 .f32) (hM : M.IsWhole)
    (inb : ∀ a, (![0, 0, 0, 0] : Fin 4 → Nat) a + S8x1x224x224.size a ≤ S8x1x224x224.size a)
    (inb' : ∀ a, (![0, k.val, 0, 0] : Fin 4 → Nat) a + S8x1x224x224.size a ≤ S8x6x224x224.size a) (x : S8x1x224x224.Idx) :
    shapeCast S8x1x224x224 (shapeCast S8x224x224
        (View.readAt (Elt F) M.view (Rect.unit (s := S8x1x224x224) ![0, 0, 0, 0] S8x1x224x224.size inb).toLoadRect (hM.unread (xs k)))
        shapeCasts_S8x1x224x224_S8x224x224) shapeCasts_S8x224x224_S8x1x224x224 x
      = stack xs ((Rect.unit (s := S8x6x224x224) ![0, k.val, 0, 0] S8x1x224x224.size inb').emb x) := by
  rw [shapeCast_shapeCast, load_channel]
  have hk : ((Rect.unit (s := S8x6x224x224) ![0, k.val, 0, 0] S8x1x224x224.size inb').emb x 1 : Fin 6) = k := by
    have hx : (x 1 : ℕ) < 1 := (x 1).isLt
    exact Fin.ext (by omega : k.val + 1 * (x 1 : ℕ) = k.val)
  refine (congrArg (xs k) (eq_one_channel _ _ ?_ ?_ ?_)).trans (congrArg (fun q => xs q _) hk.symm)
  · exact (by omega : (x 0 : ℕ) = 0 + 1 * (x 0 : ℕ))
  · exact (by omega : (x 2 : ℕ) = 0 + 1 * (x 2 : ℕ))
  · exact (by omega : (x 3 : ℕ) = 0 + 1 * (x 3 : ℕ))

/-- THE BLOCK: what the body leaves in the output's staging buffer is its six inputs side by side. -/
theorem block_value (c : Dev nD) (i : grid0.Coords) (arg2 : Memref sig .tc .vmem S8x1x224x224 .f32) (harg2 : arg2.IsWhole)
    (arg3 : Memref sig .tc .vmem S8x1x224x224 .f32) (harg3 : arg3.IsWhole) (arg4 : Memref sig .tc .vmem S8x1x224x224 .f32) (harg4 : arg4.IsWhole)
    (arg5 : Memref sig .tc .vmem S8x1x224x224 .f32) (harg5 : arg5.IsWhole) (arg6 : Memref sig .tc .vmem S8x1x224x224 .f32) (harg6 : arg6.IsWhole)
    (arg7 : Memref sig .tc .vmem S8x1x224x224 .f32) (harg7 : arg7.IsWhole) (arg8 : Memref sig .tc .vmem S8x6x224x224 .f32) (harg8 : arg8.IsWhole)
    (x0 x1 x2 x3 x4 x5 : Vec F S8x1x224x224 .f32) (xt0 : TbBuf0 (F := F) c tbM0_0) :
    out0_A_6 c i arg2 harg2 arg3 harg3 arg4 harg4 arg5 harg5 arg6 harg6 arg7 harg7 arg8 harg8 x0 x1 x2 x3 x4 x5 xt0
      = stack ![x0, x1, x2, x3, x4, x5] := by
  funext y
  refine View.read_writes_apply_of_pieces _ _ (stack ![x0, x1, x2, x3, x4, x5]) _ ?_ y (cover0_A_6 c i arg2 harg2 arg3 harg3 arg4 harg4 arg5 harg5 arg6 harg6 arg7 harg7 arg8 harg8 x0 x1 x2 x3 x4 x5 xt0 y)
  unfold kernelRun0_A
  simp only [List.forall_mem_cons]
  exact ⟨piece_value ![x0, x1, x2, x3, x4, x5] 5 arg7 harg7 _ _, piece_value ![x0, x1, x2, x3, x4, x5] 4 arg6 harg6 _ _,
    piece_value ![x0, x1, x2, x3, x4, x5] 3 arg5 harg5 _ _, piece_value ![x0, x1, x2, x3, x4, x5] 2 arg4 harg4 _ _,
    piece_value ![x0, x1, x2, x3, x4, x5] 1 arg3 harg3 _ _, piece_value ![x0, x1, x2, x3, x4, x5] 0 arg2 harg2 _ _,
    fun _ hp => absurd hp List.not_mem_nil⟩

end Cert.KernelIdeal.Hand
-- ==== Proof.ValueKernelIdeal.lean ====
/- What the kernel's result array holds when it ends: the argument's channels in the table's order. -/
module

public import proofs.«01_k».proof.Proof.BlockKernelIdeal
public import Idealize.ShloMosaic.Lib.Pipeline.ValueKit.Geometry

@[expose] public section

noncomputable section

namespace Cert.KernelIdeal.Hand

open Cert.KernelIdeal Cert.KernelIdeal.Gen Cert.Proof Idealize.ShloMosaic Idealize.ShloMosaic.TcCoe Idealize.ShloMosaic.ValueIdx
open Idealize.SL.Sem
open Idealize.ShloMosaic.Pipeline (Dat Cfg Window)

variable {F : FTy → Type} [FloatOps F]

/-- The block of one channel, placed in the array: the channel its word names. -/
theorem emb_channel (f : Fin 4 → Nat) (b : BitVec 32) (e : f = blockAt b) (hb : b.toNat < 96)
    (x : S8x1x224x224.Idx) :
    (Rect.block (s := S8x96x224x224) S8x1x224x224.size f fun a => e ▸ block_inside hb a).emb x = ix4 (x 0) (chan b) (x 2) (x 3) := by
  subst e
  have hx : (x 1 : ℕ) < 1 := (x 1).isLt
  funext a
  refine Fin.ext ?_
  match a with
  | ⟨0, _⟩ => exact (by omega : 0 * 8 + 1 * (x 0 : ℕ) = x 0)
  | ⟨1, _⟩ => exact (by rw [chan_val hb]; omega : b.toNat * 1 + 1 * (x 1 : ℕ) = chan b)
  | ⟨2, _⟩ => exact (by omega : 0 * 224 + 1 * (x 2 : ℕ) = x 2)
  | ⟨3, _⟩ => exact (by omega : 0 * 224 + 1 * (x 3 : ℕ) = x 3)

/-- The output window's block index at grid point `i`: channels `6 i` to `6 i + 5`. -/
theorem map_6 : ∀ i : grid0.Coords, cc0_transform_6 i = ![0, (i 0).val, 0, 0] := by decide +kernel

/-- The output's blocks lie inside the array. -/
theorem inside_6 : ∀ (i : grid0.Coords) (a : Fin 4), (cc0_transform_6 i a + 1) * S8x6x224x224.size a ≤ S8x96x224x224.size a := by
  decide +kernel

/-- The output's block of grid point `i`, placed in the array: slot `k` is channel `6 i + k`. -/
theorem emb_block (i : grid0.Coords) (y : S8x6x224x224.Idx) :
    (Rect.block (s := S8x96x224x224) S8x6x224x224.size (cc0_transform_6 i) (inside_6 i)).emb y = ix4 (y 0) (row i (y 1) 0) (y 2) (y 3) := by
  have e := map_6 i
  funext a
  refine Fin.ext ?_
  match a with
  | ⟨0, _⟩ => exact (by rw [e]; exact (by omega : 0 * 8 + 1 * (y 0 : ℕ) = y 0) : cc0_transform_6 i 0 * 8 + 1 * (y 0 : ℕ) = y 0)
  | ⟨1, _⟩ => exact (by rw [e]; exact (by omega : (i 0 : ℕ) * 6 + 1 * (y 1 : ℕ) = 6 * (i 0 : ℕ) + y 1) : cc0_transform_6 i 1 * 6 + 1 * (y 1 : ℕ) = 6 * (i 0 : ℕ) + y 1)
  | ⟨2, _⟩ => exact (by rw [e]; exact (by omega : 0 * 224 + 1 * (y 2 : ℕ) = y 2) : cc0_transform_6 i 2 * 224 + 1 * (y 2 : ℕ) = y 2)
  | ⟨3, _⟩ => exact (by rw [e]; exact (by omega : 0 * 224 + 1 * (y 3 : ℕ) = y 3) : cc0_transform_6 i 3 * 224 + 1 * (y 3 : ℕ) = y 3)

variable (m : (ℓ : Loc nD τ sig) → Buf (Elt F) ℓ) (ρ : Dev nD → PrngReg) (hO : Ok m)

/-- The output's blocks cover the array. -/
theorem covers : ((cfgM m hO).win 6).Covers := of_decide_eq_true (by sl_kernel_rfl)

/-- One channel of the argument. -/
def channel (x : SImg.Idx → Elt F .f32) (b : BitVec 32) : S8x1x224x224.Idx → Elt F .f32 :=
  fun y => x (ix4 (y 0) (chan b) (y 2) (y 3))

section Staged
variable (h : ∀ k : STab.Idx, ((tbl m 0 : IVec STab 32) k).toNat < 96) (c : Dev nD) (t : Fin (cfgM m hO).N)
include h

/-- At point `t` window 0's block is the channel that word `6 t` names. -/
theorem staged_0 : iblk m hO c 0 t = channel (V m c main_arg0) ((tbl m 0 : IVec STab 32) (row (grid0.coords t) 0)) :=
  funext fun x => congrArg (V m c main_arg0) (emb_channel _ _ (map_0 (tbl m) (grid0.coords t)) (h _) x)
/-- At point `t` window 1's block is the channel that word `6 t + 1` names. -/
theorem staged_1 : iblk m hO c 1 t = channel (V m c main_arg0) ((tbl m 0 : IVec STab 32) (row (grid0.coords t) 1)) :=
  funext fun x => congrArg (V m c main_arg0) (emb_channel _ _ (map_1 (tbl m) (grid0.coords t)) (h _) x)
/-- At point `t` window 2's block is the channel that word `6 t + 2` names. -/
theorem staged_2 : iblk m hO c 2 t = channel (V m c main_arg0) ((tbl m 0 : IVec STab 32) (row (grid0.coords t) 2)) :=
  funext fun x => congrArg (V m c main_arg0) (emb_channel _ _ (map_2 (tbl m) (grid0.coords t)) (h _) x)
/-- At point `t` window 3's block is the channel that word `6 t + 3` names. -/
theorem staged_3 : iblk m hO c 3 t = channel (V m c main_arg0) ((tbl m 0 : IVec STab 32) (row (grid0.coords t) 3)) :=
  funext fun x => congrArg (V m c main_arg0) (emb_channel _ _ (map_3 (tbl m) (grid0.coords t)) (h _) x)
/-- At point `t` window 4's block is the channel that word `6 t + 4` names. -/
theorem staged_4 : iblk m hO c 4 t = channel (V m c main_arg0) ((tbl m 0 : IVec STab 32) (row (grid0.coords t) 4)) :=
  funext fun x => congrArg (V m c main_arg0) (emb_channel _ _ (map_4 (tbl m) (grid0.coords t)) (h _) x)
/-- At point `t` window 5's block is the channel that word `6 t + 5` names. -/
theorem staged_5 : iblk m hO c 5 t = channel (V m c main_arg0) ((tbl m 0 : IVec STab 32) (row (grid0.coords t) 5)) :=
  funext fun x => congrArg (V m c main_arg0) (emb_channel _ _ (map_5 (tbl m) (grid0.coords t)) (h _) x)

/-- At point `t` the body leaves the six channels that words `6 t` to `6 t + 5` name. -/
theorem block_at : outsAt0 m hO c t
    = stack fun k => channel (V m c main_arg0) ((tbl m 0 : IVec STab 32) (row (grid0.coords t) k)) :=
  (block_value c (grid0.coords t) (ms0_0 m hO t) (hs0_0 m hO t) (ms0_1 m hO t) (hs0_1 m hO t) (ms0_2 m hO t) (hs0_2 m hO t)
    (ms0_3 m hO t) (hs0_3 m hO t) (ms0_4 m hO t) (hs0_4 m hO t) (ms0_5 m hO t) (hs0_5 m hO t) (ms0_6 m hO t) (hs0_6 m hO t)
    _ _ _ _ _ _ (tbl m 0)).trans (congrArg stack (funext fun k => match k with
      | 0 => staged_0 m hO h c t
      | 1 => staged_1 m hO h c t
      | 2 => staged_2 m hO h c t
      | 3 => staged_3 m hO h c t
      | 4 => staged_4 m hO h c t
      | 5 => staged_5 m hO h c t))

/-- THE ARRAY: after the last point the result holds the argument's channels in the table's order. -/
theorem final : (dats m hO 0 c).arrAt 6 (cfgM m hO).N = permuted (V m c main_arg0) (tbl m 0) := by
  refine (dats m hO 0 c).arrAt_eq_of_covers 6 _ (covers m hO) fun t hf y => ?_
  blk_simp
  rw [after0_6, block_at m hO h c t]
  exact congrArg (permuted (V m c main_arg0) (tbl m 0)) (emb_block (grid0.coords t) y).symm

end Staged

/-- THE KERNEL'S RUN on a table of words below 96: the result is the argument's channels in the table's order, the
    arguments unchanged. -/
theorem run_kernel (h : ∀ (c : Dev nD) (k : STab.Idx), ((m ((c.tc : Thread nD τ).loc main_arg1) : IVec STab 32) k).toNat < 96) :
    θ_run defs (onTc (τ := τ) (main (F := F))) ⟨m, fun _ => 0, ρ⟩ fun r => ∀ c : Dev nD,
      r.2.mem ((c.tc : Thread nD τ).loc main_v0)
          = permuted (m ((c.tc : Thread nD τ).loc main_arg0)) (m ((c.tc : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1) := by
  have hO : Ok m := ok_of_lt m (h 0)
  refine (θ_run defs _ _).mono (fun r hr c => ⟨((hr c).1 6).trans ?_, ((hr c).1 5).trans
    (((dats m hO 0 c).arrAt_in 5 rfl _).trans (A_eq m hO c 5)),
    (hr c).2 main_arg1 (by decide : main_arg1 ∈ Pipeline.restRefs sig spec0)⟩) (run_main m ρ hO)
  obtain rfl : c = 0 := Subsingleton.elim _ _
  exact final m hO (h 0) 0

end Cert.KernelIdeal.Hand
-- ==== Proof.Take.lean ====
/- What the reference computes. `jnp.take` along axis 1 wraps a negative index, gathers with the start indices clamped, and
   puts NaN where an index names no channel. On a table whose words are all below 96 nothing wraps and nothing is masked. -/
module

public import proofs.«01_k».proof.Proof.Channels
public import proofs.«01_k».proof.Proof.Gen.ReferenceIdeal.Run

@[expose] public section

namespace Cert.Proof

open Idealize.ShloMosaic Idealize.ShloMosaic.ValueIdx

/-- A word below 96 read as a signed integer is its unsigned value. -/
theorem toInt_of_lt {b : BitVec 32} (h : b.toNat < 96) : b.toInt = (b.toNat : ℤ) := by
  rw [BitVec.toInt_eq_toNat_cond]; split <;> omega

/-- A word below 96 isn't negative. -/
theorem slt_zero {b : BitVec 32} (h : b.toNat < 96) : IntOp.cmpi .slt b 0#32 = 0#1 := by
  refine eq_zero_of_ne_one fun e => ?_
  rw [IntOp.cmpi_slt, toInt_of_lt h] at e
  have e0 : (0#32 : BitVec 32).toInt = 0 := rfl
  omega

/-- A word below 96 is signed at least 0. -/
theorem sge_zero {b : BitVec 32} (h : b.toNat < 96) : IntOp.cmpi .sge b 0#32 = 1#1 := by
  rw [IntOp.cmpi_sge, toInt_of_lt h]
  have e0 : (0#32 : BitVec 32).toInt = 0 := rfl
  omega

/-- A word below 96 is signed at most 95. -/
theorem sle_95 {b : BitVec 32} (h : b.toNat < 96) : IntOp.cmpi .sle b 95#32 = 1#1 := by
  rw [IntOp.cmpi_sle, toInt_of_lt h]
  have e0 : (95#32 : BitVec 32).toInt = 95 := rfl
  omega

open Cert.ReferenceIdeal Cert.ReferenceIdeal.Gen

section Gather
variable {α : Type}

/-- The dimension numbers of the reference's gather: slices of one channel, the start index on axis 1. -/
abbrev D : GatherDims S8x96x224x224 S96x1 S8x96x224x224 := gather_S8x96x224x224_S96x1_S8x96x224x224_023_1_n_n_1_1_81224224

/-- THE GATHER READ AT AN INDEX: channel `j 1` of the result is the operand's channel that start index `j 1` names. -/
theorem gather_apply (x : SImg.Idx → α) (idx : IVec S96x1 32) (j : SImg.Idx) (h : (idx (ix2 (j 1) 0)).toNat < 96) :
    Host.gather D x idx j = x (ix4 (j 0) (chan (idx (ix2 (j 1) 0))) (j 2) (j 3)) := by
  have hsi : D.siIdx j ⟨0, by decide⟩ = ix2 (j 1) 0 := by
    funext b; refine Fin.ext ?_
    match b with
    | ⟨0, _⟩ => rfl
    | ⟨1, _⟩ => rfl
  have hst : D.start j idx 1 = min (idx (ix2 (j 1) 0)).toNat 95 := by
    unfold GatherDims.start
    rw [dif_pos (by decide)]
    refine (congrArg (fun q => min (idx q).toInt.toNat 95) hsi).trans ?_
    show min (idx (ix2 (j 1) 0)).toInt.toNat 95 = _
    rw [toInt_of_lt h]; rfl
  unfold Host.gather
  refine congrArg x (funext fun a => Fin.ext ?_)
  show D.start j idx a + D.batchCoord j a + D.offCoord j a = _
  rw [GatherDims.batchCoord_eq_zero _ _ _ (List.not_mem_nil)]
  match a with
  | ⟨0, _⟩ => exact Nat.zero_add _
  | ⟨1, _⟩ =>
    refine (congrArg₂ (· + 0 + ·) hst ?_ : _ = min (idx (ix2 (j 1) 0)).toNat 95 + 0 + 0)
    exact dif_neg (by decide : (1 : Fin 4) ∉ D.sKept)
  | ⟨2, _⟩ => exact Nat.zero_add _
  | ⟨3, _⟩ => exact Nat.zero_add _

end Gather

/-- THE MASK: start indices all below 96 are all in range, so the gather is what `jnp.take` gives. -/
theorem take_apply {α : Type} (x nan : SImg.Idx → α) (i : IVec S96x1 32) (h : ∀ q, (i q).toNat < 96) (j : SImg.Idx) :
    select (broadcastInDim S8x96x224x224 ![1] bcast_S96_S8x96x224x224_1 (Host.reduce IntOp.andi
        (andi (cmpi .sge i (broadcastInDim S96x1 ![] bcast_S_S96x1 (constantI S_ 32 0#32)))
          (cmpi .sle i (broadcastInDim S96x1 ![0, 1] bcast_S1x1_S96x1_0_1 (broadcastInDim S1x1 ![1] bcast_S1_S1x1_1 (constantI S1 32 95#32)))))
        (constantI S_ 1 1#1) reducesTo_S96x1_S96_d1 h_S_)) (Host.gather D x i) nan j
      = x (ix4 (j 0) (chan (i (ix2 (j 1) 0))) (j 2) (j 3)) := by
  rw [select_apply]
  refine (congrArg (fun b => Scalar.select b _ (nan j)) (Host.reduce_andi_one _ _ _ _ _ rfl fun q => ?_)).trans
    ((select_one _ _).trans (gather_apply x i j (h _)))
  exact IntOp.andi_eq_one.2 ⟨sge_zero (h q), sle_95 (h q)⟩

/-- THE WRAP: a table of words below 96 is its own start indices, one per row. -/
theorem wrap_apply (idx : IVec STab 32) (h : ∀ k, (idx k).toNat < 96) (q : S96x1.Idx) :
    broadcastInDim S96x1 ![0] bcast_S96_S96x1_0 (select (cmpi .slt idx (broadcastInDim S96 ![] bcast_S_S96 (constantI S_ 32 0#32)))
      (addi idx (broadcastInDim S96 ![] bcast_S_S96 (constantI S_ 32 96#32))) idx) q = idx (ix1 (q 0)) := by
  have e : ∀ k, select (cmpi .slt idx (broadcastInDim S96 ![] bcast_S_S96 (constantI S_ 32 0#32)))
      (addi idx (broadcastInDim S96 ![] bcast_S_S96 (constantI S_ 32 96#32))) idx k = idx k := fun k => by
    rw [select_apply]
    exact (congrArg (fun b => Scalar.select b _ (idx k)) (slt_zero (h k))).trans (select_zero _ _)
  refine (e _).trans (congrArg idx (funext fun d => ?_))
  match d with
  | ⟨0, _⟩ => rfl

open Idealize.SL.Sem

variable {F : FTy → Type} [FloatOps F]

/-- THE REFERENCE'S RUN on a table of words below 96: the result is the argument's channels in the table's order, the
    arguments unchanged. -/
theorem run_reference (m : (ℓ : Loc nD τ sig) → Buf (Elt F) ℓ) (ρ : Dev nD → PrngReg)
    (h : ∀ (c : Dev nD) (k : STab.Idx), ((m ((c.tc : Thread nD τ).loc main_arg1) : IVec STab 32) k).toNat < 96) :
    θ_run defs (onTc (τ := τ) (main (F := F))) ⟨m, fun _ => 0, ρ⟩ fun r => ∀ c : Dev nD,
      r.2.mem ((c.tc : Thread nD τ).loc main_v0)
          = permuted (m ((c.tc : Thread nD τ).loc main_arg0)) (m ((c.tc : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun _ hr c => ⟨(hr c).1.trans (funext fun j => by
      refine (take_apply _ _ _ (fun q => ?_) j).trans ?_
      · rw [wrap_apply _ (h c)]; exact h c _
      · rw [wrap_apply _ (h c)]; rfl), (hr c).2⟩) (Value.run m ρ)

end Cert.Proof
-- ==== Proof.lean ====
module

public import proofs.«01_k».proof.Defs
public import proofs.«01_k».proof.Proof.TableKernel
public import proofs.«01_k».proof.Proof.ValueKernelIdeal
public import proofs.«01_k».proof.Proof.Take
public import proofs.«01_k».proof.Proof.Gen.Kernel
public import proofs.«01_k».proof.Proof.Gen.Kernel.Frame
public import proofs.«01_k».proof.Proof.Gen.KernelIdeal
public import proofs.«01_k».proof.Proof.Gen.KernelIdeal.Frame
public import proofs.«01_k».proof.Proof.Gen.ReferenceIdeal.Run
public import proofs.«01_k».proof.Proof.Gen.ReferenceIdeal
public import proofs.«01_k».proof.Proof.Gen.Pre_in_range
public import Idealize.ShloMosaic.Adequacy
public import Idealize.ShloMosaic.Init
public import Idealize.ShloMosaic.Lib.Quiescent

@[expose] public section

noncomputable section

namespace Cert.Proof

open Idealize.ShloMosaic Idealize.SL.Sem

/-- The kernel over machine words runs, leaves its arguments unchanged and every semaphore counter at zero. -/
theorem frame_kernel : Cert.quiescent_Kernel :=
  fun m ρ h => Cert.Kernel.Gen.frame m ρ (Cert.Kernel.Hand.ok_of_lt m (toNat_lt _ _ (h 0)))

/-- The kernel over the extended reals runs, leaves its arguments unchanged and every semaphore counter at zero. -/
theorem frame_kernelIdeal : Cert.quiescent_KernelIdeal :=
  fun m ρ h => Cert.KernelIdeal.Gen.frame m ρ (Cert.KernelIdeal.Hand.ok_of_lt m (toNat_lt _ _ (h 0)))

/-- The reference runs from any memory, leaves its arguments unchanged and (it has no semaphore) every counter at zero. -/
theorem frame_referenceIdeal : Cert.quiescent_ReferenceIdeal := fun m ρ _ =>
  (θ_run Cert.ReferenceIdeal.defs _ _).mono (fun r h => ⟨fun c => (h c).2, sem_eq_zero_of_no_sems (by decide) r.2⟩)
    (Cert.ReferenceIdeal.Value.run (F := Ideal) m ρ)

/-- THE EQUATION: on a table of channel numbers, kernel and reference end with the same array, the argument's channels in
    the table's order. -/
theorem algebraic : Cert.algebraic_KernelIdeal_ReferenceIdeal := by
  intro m g m' g' hpre hagree
  have hlt : ∀ (c : Dev Cert.KernelIdeal.nD) (k : STab.Idx),
      ((m ((c.tc : Thread Cert.KernelIdeal.nD Cert.KernelIdeal.τ).loc Cert.KernelIdeal.main_arg1) : IVec STab 32) k).toNat < 96 :=
    fun c => toNat_lt _ _ (hpre c)
  refine ⟨fun c => permuted (m ((c.tc : Thread Cert.KernelIdeal.nD Cert.KernelIdeal.τ).loc Cert.KernelIdeal.main_arg0))
      (m ((c.tc : Thread Cert.KernelIdeal.nD Cert.KernelIdeal.τ).loc Cert.KernelIdeal.main_arg1)),
    Cert.KernelIdeal.Hand.run_kernel (F := Ideal) m g hlt, ?_⟩
  refine (θ_run Cert.ReferenceIdeal.defs _ _).mono (fun r h c => ⟨(h c).1.trans ?_, (h c).2⟩)
    (run_reference (F := Ideal) m' g' fun c k => ?_)
  · exact (congrArg (fun idx : IVec STab 32 => (idx k).toNat) (hagree c).2).trans_lt (hlt c k)
  · exact congrArg₂ permuted (hagree c).1 (hagree c).2

/-- All claims of the certificate. -/
theorem claim : Cert.Claim :=
  ⟨Cert.Kernel.Gen.facts, Cert.KernelIdeal.Gen.facts, Cert.ReferenceIdeal.Gen.facts, Cert.Pre_in_range.Gen.facts,
    frame_kernel, frame_kernelIdeal, frame_referenceIdeal, fun m ρ _ => frame_referenceIdeal m ρ trivial, trivial, algebraic⟩

end Cert.Proof

end
